-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_sqrt_3" .f32 0x3F13CD3A#32 (((Real.sqrt 3)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x4x128 : Shape := ⟨3, ![100000, 4, 128]⟩
abbrev S100000x4x1 : Shape := ⟨3, ![100000, 4, 1]⟩
abbrev S100000x512 : Shape := ⟨2, ![100000, 512]⟩
abbrev S100000x4 : Shape := ⟨2, ![100000, 4]⟩
abbrev S100000x1024 : Shape := ⟨2, ![100000, 1024]⟩
abbrev S1000x512 : Shape := ⟨2, ![1000, 512]⟩
abbrev S1000x4 : Shape := ⟨2, ![1000, 4]⟩
abbrev S1000x1024 : Shape := ⟨2, ![1000, 1024]⟩
abbrev S1000x128 : Shape := ⟨2, ![1000, 128]⟩
abbrev S1000x1 : Shape := ⟨2, ![1000, 1]⟩
abbrev S100000x8x128 : Shape := ⟨3, ![100000, 8, 128]⟩

abbrev nBuf : Space → Nat
  | .hbm => 6
  | .vmem => 6
  | .smem => 0
  | _ => 0

abbrev bufTy : (tb : Table) → Fin (tcTables nBuf tb) → BufTy
  | .hbm, ⟨0, _⟩ => ⟨S100000x4x128, .f32⟩
  | .hbm, ⟨1, _⟩ => ⟨S100000x4x1, .f32⟩
  | .hbm, ⟨2, _⟩ => ⟨S100000x512, .f32⟩
  | .hbm, ⟨3, _⟩ => ⟨S100000x4, .f32⟩
  | .hbm, ⟨4, _⟩ => ⟨S100000x1024, .f32⟩
  | .hbm, ⟨5, _⟩ => ⟨S100000x8x128, .f32⟩
  | .local _ .vmem, ⟨0, _⟩ => ⟨S1000x512, .f32⟩
  | .local _ .vmem, ⟨1, _⟩ => ⟨S1000x512, .f32⟩
  | .local _ .vmem, ⟨2, _⟩ => ⟨S1000x4, .f32⟩
  | .local _ .vmem, ⟨3, _⟩ => ⟨S1000x4, .f32⟩
  | .local _ .vmem, ⟨4, _⟩ => ⟨S1000x1024, .f32⟩
  | .local _ .vmem, ⟨5, _⟩ => ⟨S1000x1024, .f32⟩
  | _, _ => ⟨S100000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_sqrt_3" => some (((Real.sqrt 3)⁻¹ : ℝ) : EReal)
  | _ => none
-- ==== ReferenceIdeal.lean ====
abbrev S100000x4x128 : Shape := ⟨3, ![100000, 4, 128]⟩
abbrev S100000x4x1 : Shape := ⟨3, ![100000, 4, 1]⟩
abbrev S10 : Shape := ⟨1, ![10]⟩
abbrev S_ : Shape := ⟨0, ![]⟩
abbrev S7 : Shape := ⟨1, ![7]⟩
abbrev S3 : Shape := ⟨1, ![3]⟩
abbrev S10x1 : Shape := ⟨2, ![10, 1]⟩
abbrev S100000x10x128 : Shape := ⟨3, ![100000, 10, 128]⟩
abbrev S1x10x1 : Shape := ⟨3, ![1, 10, 1]⟩
abbrev S100000x10x1 : Shape := ⟨3, ![100000, 10, 1]⟩
abbrev S100000x8x128 : Shape := ⟨3, ![100000, 8, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x4x128, .f32⟩
  | .hbm, ⟨1, _⟩ => ⟨S100000x4x1, .f32⟩
  | .hbm, ⟨2, _⟩ => ⟨S10, .i32⟩
  | .hbm, ⟨3, _⟩ => ⟨S10, .i32⟩
  | .hbm, ⟨4, _⟩ => ⟨S10, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S7, .f32⟩
  | .hbm, ⟨11, _⟩ => ⟨S3, .f32⟩
  | .hbm, ⟨12, _⟩ => ⟨S10, .f32⟩
  | .hbm, ⟨13, _⟩ => ⟨S_, .i32⟩
  | .hbm, ⟨14, _⟩ => ⟨S10, .i32⟩
  | .hbm, ⟨15, _⟩ => ⟨S10, .i1⟩
  | .hbm, ⟨16, _⟩ => ⟨S_, .i32⟩
  | .hbm, ⟨17, _⟩ => ⟨S10, .i32⟩
  | .hbm, ⟨18, _⟩ => ⟨S10, .i32⟩
  | .hbm, ⟨19, _⟩ => ⟨S10, .i32⟩
  | .hbm, ⟨20, _⟩ => ⟨S10x1, .i32⟩
  | .hbm, ⟨21, _⟩ => ⟨S100000x10x128, .f32⟩
  | .hbm, ⟨22, _⟩ => ⟨S1x10x1, .f32⟩
  | .hbm, ⟨23, _⟩ => ⟨S100000x10x128, .f32⟩
  | .hbm, ⟨24, _⟩ => ⟨S100000x10x128, .f32⟩
  | .hbm, ⟨25, _⟩ => ⟨S_, .i32⟩
  | .hbm, ⟨26, _⟩ => ⟨S10, .i32⟩
  | .hbm, ⟨27, _⟩ => ⟨S10, .i1⟩
  | .hbm, ⟨28, _⟩ => ⟨S_, .i32⟩
  | .hbm, ⟨29, _⟩ => ⟨S10, .i32⟩
  | .hbm, ⟨30, _⟩ => ⟨S10, .i32⟩
  | .hbm, ⟨31, _⟩ => ⟨S10, .i32⟩
  | .hbm, ⟨32, _⟩ => ⟨S10x1, .i32⟩
  | .hbm, ⟨33, _⟩ => ⟨S100000x10x1, .f32⟩
  | .hbm, ⟨34, _⟩ => ⟨S100000x10x128, .f32⟩
  | .hbm, ⟨35, _⟩ => ⟨S100000x10x128, .f32⟩
  | .hbm, ⟨36, _⟩ => ⟨S_, .f32⟩
  | .hbm, ⟨37, _⟩ => ⟨S100000x8x128, .f32⟩
  | .hbm, ⟨38, _⟩ => ⟨S_, .i32⟩
  | .hbm, ⟨39, _⟩ => ⟨S10, .i32⟩
  | .hbm, ⟨40, _⟩ => ⟨S10, .i1⟩
  | .hbm, ⟨41, _⟩ => ⟨S_, .i32⟩
  | .hbm, ⟨42, _⟩ => ⟨S10, .i32⟩
  | .hbm, ⟨43, _⟩ => ⟨S10, .i32⟩
  | .hbm, ⟨44, _⟩ => ⟨S10, .i32⟩
  | .hbm, ⟨45, _⟩ => ⟨S10x1, .i32⟩
  | .hbm, ⟨46, _⟩ => ⟨S100000x8x128, .f32⟩
  | _, _ => ⟨S100000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_v0 : Ref sig .tc := ⟨.hbm, 6, rfl⟩
abbrev main_cst_2 : Ref sig .tc := ⟨.hbm, 7, rfl⟩
abbrev main_v1 : Ref sig .tc := ⟨.hbm, 8, rfl⟩
abbrev main_cst_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_4 : Ref sig .tc := ⟨.hbm, 13, rfl⟩
abbrev main_v5 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_c_9 : Ref sig .tc := ⟨.hbm, 38, rfl⟩
abbrev main_v25 : Ref sig .tc := ⟨.hbm, 39, rfl⟩
abbrev main_v26 : Ref sig .tc := ⟨.hbm, 40, rfl⟩
abbrev main_c_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Consts.lean ====
/- The float constants of the two programs, as extended reals: the words for 0, 1 and 3, and the inverse square root of
   three, which the kernel names and the reference computes. -/
module

public import Idealize.ShloMosaic.PureOps.Ideal
public import Idealize.ShloMosaic.PureOps.IdealRules
public import proofs.«01_k».proof.KernelIdeal

@[expose] public section

noncomputable section

namespace Cert.Product

open Idealize.ShloMosaic

/-- The inverse square root of three, a real number. -/
abbrev invSqrt3 : ℝ := (Real.sqrt 3)⁻¹

/-- It is not negative. -/
theorem invSqrt3_nonneg : 0 ≤ invSqrt3 := inv_nonneg.mpr (Real.sqrt_nonneg 3)

/-- The word of the float 0 is the number 0. -/
theorem word_zero : Ideal.ofBits .f32 0x00000000#32 = (0 : EReal) := by
  simp [Ideal.ofBits, Ideal.ieee, -EReal.coe_mul]

/-- The word of the float 1 is the number 1. -/
theorem word_one : Ideal.ofBits .f32 0x3F800000#32 = (1 : EReal) := by
  simp [Ideal.ofBits, Ideal.ieee, -EReal.coe_mul]; norm_num

/-- The word of the float 3 is the number 3. -/
theorem word_three : Ideal.ofBits .f32 0x40400000#32 = ((3 : ℝ) : EReal) := by
  simp [Ideal.ofBits, Ideal.ieee, -EReal.coe_mul]; norm_num

/-- The kernel's named constant is the inverse square root of three. -/
theorem named_invSqrt3 :
    Named.named (F := Ideal) Cert.KernelIdeal.κ "inv_sqrt_3" (φ := .f32) 0x3F13CD3A#32 = (invSqrt3 : EReal) :=
  IdealRules.named_const.ideal_named_scalar _ _ _ _ rfl

/-- One divided by the square root of three, as the reference computes it, is the inverse square root of three. -/
theorem div_sqrt_three (s : Shape) (i : s.Idx) :
    Host.divf (constant (F := Ideal) s .f32 0x3F800000#32) (Host.sqrt (constant (F := Ideal) s .f32 0x40400000#32)) i
      = (invSqrt3 : EReal) := by
  have h : ¬ (3 : ℝ) < 0 := by norm_num
  have h3 : 0 < Real.sqrt 3 := Real.sqrt_pos.mpr (by norm_num)
  show FloatOps.hostDivf (F := Ideal) (Ideal.ofBits .f32 0x3F800000#32)
    (FloatOps.hostUnary (F := Ideal) .sqrt (Ideal.ofBits .f32 0x40400000#32)) = _
  rw [Ideal.hostDivf_def, Ideal.hostUnary_sqrt_def, word_one, word_three, Ideal.sqrt_coe, if_neg h,
    Ideal.div_coe h3.ne', one_div, one_mul]

end Cert.Product

end
-- ==== Proof.Paths.lean ====
/- The tensor product at one node and one channel, as arithmetic of extended reals: ten paths from a component of the
   left factor and a component of the right factor to a component of the result, and the closed form of their sum. -/
module

public import Mathlib.Data.EReal.Inv
public import Mathlib.Data.EReal.Operations
public import Mathlib.Data.EReal.Basic
public import Mathlib.Data.Fin.VecNotation
public import Mathlib.Algebra.BigOperators.Fin
public import Mathlib.Tactic.FinCases

@[expose] public section

noncomputable section

open scoped BigOperators

namespace Cert.Product

/-- The component of the left factor each path reads. -/
def left : Fin 10 → Fin 4 := ![0, 0, 0, 0, 1, 2, 3, 1, 2, 3]
/-- The component of the right factor each path reads. -/
def right : Fin 10 → Fin 4 := ![0, 1, 2, 3, 0, 0, 0, 1, 2, 3]
/-- The component of the result each path adds to. -/
def dest : Fin 10 → Fin 8 := ![0, 1, 2, 3, 4, 5, 6, 7, 7, 7]
/-- The coefficient of each path: one, and `s` for the three paths into the last component. -/
def weight (s : EReal) (p : Fin 10) : EReal := if p.val < 7 then 1 else s

/-- The eight components of the product of `a` and `b`: the scalar of `a` times each component of `b`, the vector of
    `a` times the scalar of `b`, and the scaled inner product of the two vectors. -/
def comp (s : EReal) (a b : Fin 4 → EReal) : Fin 8 → EReal :=
  ![a 0 * b 0, a 0 * b 1, a 0 * b 2, a 0 * b 3, a 1 * b 0, a 2 * b 0, a 3 * b 0,
    (a 1 * b 1 + a 2 * b 2 + a 3 * b 3) * s]

/-- A real factor that is not negative may be moved into a sum of three products of extended reals, infinite ones
    included. -/
theorem inner_mul_coe (r : ℝ) (hr : 0 ≤ r) (u v w x y z : EReal) :
    (u * x + (v * y + w * z)) * (r : EReal) = u * r * x + (v * r * y + w * r * z) := by
  have h0 : (0 : EReal) ≤ (r : EReal) := EReal.coe_nonneg.mpr hr
  rw [EReal.right_distrib_of_nonneg_of_ne_top h0 (EReal.coe_ne_top r),
    EReal.right_distrib_of_nonneg_of_ne_top h0 (EReal.coe_ne_top r),
    mul_right_comm u, mul_right_comm v, mul_right_comm w]

/-- The paths into component `k`, added up, are component `k` of the product. -/
theorem sum_paths (r : ℝ) (hr : 0 ≤ r) (a b : Fin 4 → EReal) (k : Fin 8) :
    (∑ p ∈ Finset.univ.filter (fun p => dest p = k), a (left p) * weight r p * b (right p)) = comp r a b k := by
  rw [Finset.sum_filter]
  fin_cases k <;>
    simp [Fin.sum_univ_succ, dest, left, right, weight, comp, inner_mul_coe r hr, add_assoc]

end Cert.Product

end
-- ==== Proof.Block.lean ====
/- What one run of the kernel's body leaves in the block of the result: at each row and channel, the eight components of
   the product of that row's two factors. -/
module

public import proofs.«01_k».proof.Proof.Consts
public import proofs.«01_k».proof.Proof.Paths
public import proofs.«01_k».proof.Proof.Gen.KernelIdeal.Frame
public import Idealize.ShloMosaic.Lib.Pipeline.Value
public import Idealize.ShloMosaic.Lib.ValueIdx
public import Idealize.ShloMosaic.Lib.ValueLayout

@[expose] public section

noncomputable section

namespace Cert.Product

open Idealize.ShloMosaic Idealize.ShloMosaic.ValueIdx

/-- Channel `u` of component `i` in a row of four components stored side by side. -/
abbrev col (i : Fin 4) (u : Fin 128) : Fin 512 := ⟨i.val * 128 + u.val, by omega⟩

/-- The products of `n` rows, eight components of a row side by side: entry `j` of a row is channel `j % 128` of
    component `j / 128`. -/
def rows {n : Nat} (x : (⟨2, ![n, 512]⟩ : Shape).Idx → EReal) (y : (⟨2, ![n, 4]⟩ : Shape).Idx → EReal) :
    (⟨2, ![n, 1024]⟩ : Shape).Idx → EReal := fun i =>
  comp invSqrt3 (fun a => x (ix2 (i 0) (col a ⟨(i 1).val % 128, Nat.mod_lt _ (by norm_num)⟩)))
    (fun a => y (ix2 (i 0) a)) ⟨(i 1).val / 128, by have := idx2_lt1 i; omega⟩

/-- `rows` at an entry given by its row, component and channel. -/
theorem rows_apply {n : Nat} (x : (⟨2, ![n, 512]⟩ : Shape).Idx → EReal) (y : (⟨2, ![n, 4]⟩ : Shape).Idx → EReal)
    (i : (⟨2, ![n, 1024]⟩ : Shape).Idx) (r : Fin n) (k : Fin 8) (u : Fin 128)
    (h0 : (i 0).val = r.val) (h1 : (i 1).val = k.val * 128 + u.val) :
    rows x y i = comp invSqrt3 (fun a => x (ix2 r (col a u))) (fun a => y (ix2 r a)) k := by
  have e0 : i 0 = r := Fin.ext h0
  have e1 : (⟨(i 1).val % 128, Nat.mod_lt _ (by norm_num)⟩ : Fin 128) = u := Fin.ext (by show (i 1).val % 128 = _; omega)
  have e2 : (⟨(i 1).val / 128, by have := idx2_lt1 i; omega⟩ : Fin 8) = k := Fin.ext (by show (i 1).val / 128 = _; omega)
  unfold rows
  rw [e0, e1, e2]

end Cert.Product

namespace Cert.KernelIdeal.RefValue

open Idealize.ShloMosaic Idealize.ShloMosaic.ValueIdx Cert.KernelIdeal Cert.KernelIdeal.Gen Cert.Product

/-- A 128-channel slice of the left block reads one component of a row. -/
theorem slice_x (o : Nat) (x : FVec Ideal S1000x512 .f32) (h : S1000x512.Slices ![0, o] S1000x128) (a : Fin 4)
    (ho : o = a.val * 128) (r : Fin 1000) (u : Fin 128) :
    extractStridedSlice S1000x128 ![0, o] (k0_pay2 x) h (ix2 r u) = x (ix2 r (col a u)) := by
  unfold k0_pay2
  rw [shapeCast_self]
  exact slice2_axis1_apply o x h r u (col a u) (by show a.val * 128 + u.val = _; omega)

/-- A one-entry slice of the right block, repeated over the channels, reads one component of a row. -/
theorem slice_y (o : Nat) (y : FVec Ideal S1000x4 .f32) (h : S1000x4.Slices ![0, o] S1000x1) (a : Fin 4)
    (ho : o = a.val) (hb : S1000x1.Broadcasts S1000x128) (r : Fin 1000) (u : Fin 128) :
    broadcastTo S1000x128 (extractStridedSlice S1000x1 ![0, o] (k0_pay3 y) h) hb (ix2 r u) = y (ix2 r a) := by
  unfold k0_pay3
  rw [shapeCast_self]
  refine (broadcastTo_apply _ hb (ix2 r u) (ix2 r (0 : Fin 1)) fun ax => ?_).trans
    (slice2_axis1_apply o y h r 0 a (by show a.val = o + 0; omega))
  match ax with
  | ⟨0, _⟩ => rfl
  | ⟨1, _⟩ => rfl

/-- Products of a slice of the left block with a slice of the right one, at a row and a channel. -/
theorem mul_slices (o o' : Nat) (x : FVec Ideal S1000x512 .f32) (y : FVec Ideal S1000x4 .f32)
    (h : S1000x512.Slices ![0, o] S1000x128) (h' : S1000x4.Slices ![0, o'] S1000x1) (a b : Fin 4) (ho : o = a.val * 128)
    (ho' : o' = b.val) (hb : S1000x1.Broadcasts S1000x128) (r : Fin 1000) (u : Fin 128) :
    mulf (extractStridedSlice S1000x128 ![0, o] (k0_pay2 x) h)
        (broadcastTo S1000x128 (extractStridedSlice S1000x1 ![0, o'] (k0_pay3 y) h') hb) (ix2 r u)
      = x (ix2 r (col a u)) * y (ix2 r b) := by
  rw [mulf_apply, slice_x o x h a ho, slice_y o' y h' b ho' hb]

/-- The last component the body stores: the scaled inner product of the two vectors. -/
theorem inner_apply (x : FVec Ideal S1000x512 .f32) (y : FVec Ideal S1000x4 .f32) (r : Fin 1000) (u : Fin 128) :
    k0_pay1 (F := Ideal) (k0_pay5 x) (k0_pay6 x) (k0_pay7 x) (k0_pay10 y) (k0_pay11 y) (k0_pay19 y) (ix2 r u)
      = comp invSqrt3 (fun a => x (ix2 r (col a u))) (fun a => y (ix2 r a)) 7 := by
  unfold k0_pay1 k0_pay5 k0_pay6 k0_pay7 k0_pay10 k0_pay11 k0_pay19 k0_pay9
  rw [mulf_apply, addf_apply, addf_apply, mul_slices 128 1 x y _ _ 1 1 rfl rfl, mul_slices 256 2 x y _ _ 2 2 rfl rfl,
    mul_slices 384 3 x y _ _ 3 3 rfl rfl]
  exact congrArg _ named_invSqrt3

/-- An entry of the block stored at column `128 k` of the result block: its row and its component and channel. -/
theorem piece_rows (x : FVec Ideal S1000x512 .f32) (y : FVec Ideal S1000x4 .f32) (o : Nat) (k : Fin 8) (ho : o = k.val * 128)
    (inb : ∀ a, (![0, o] : Fin 2 → Nat) a + S1000x128.size a ≤ S1000x1024.size a) (w : FVec Ideal S1000x128 .f32)
    (hw : ∀ (r : Fin 1000) (u : Fin 128),
      w (ix2 r u) = comp invSqrt3 (fun a => x (ix2 r (col a u))) (fun a => y (ix2 r a)) k) (j : S1000x128.Idx) :
    w j = rows x y ((Rect.unit (s := S1000x1024) ![0, o] S1000x128.size inb).emb j) := by
  obtain ⟨r, u, rfl⟩ : ∃ (r : Fin 1000) (u : Fin 128), j = ix2 r u := ⟨j 0, j 1, eq_ix2 j⟩
  refine (hw r u).trans (rows_apply x y _ r k u ?_ ?_).symm
  · show 0 + 1 * r.val = _; omega
  · show o + 1 * u.val = _; omega

/-- Zero offsets of a load of a whole block. -/
theorem hz : (![0, 0] : Fin 2 → Nat) = fun _ => 0 := funext fun a => by fin_cases a <;> rfl

/-- The body's result block is the products of its rows: each of its eight stores writes one component. -/
theorem out_eq (x : FVec Ideal S1000x512 .f32) (y : FVec Ideal S1000x4 .f32) : out0_2 (F := Ideal) x y = rows x y := by
  unfold out0_2
  rw [View.ld_unit_zero hz, View.ld_unit_zero hz]
  funext i
  refine View.canon_apply_of_pieces (Val := Elt Ideal) (rows x y) _ (fun p hp => ?_) i (cover0_2 _ _ _ _ _ _ _ _ i)
  simp only [List.mem_cons, List.not_mem_nil, or_false] at hp
  rcases hp with rfl | rfl | rfl | rfl | rfl | rfl | rfl | rfl
  · exact piece_rows x y 896 7 rfl inb_S1000x1024_S1000x128_0_896 _ (inner_apply x y)
  · exact piece_rows x y 768 6 rfl inb_S1000x1024_S1000x128_0_768 _ (mul_slices 384 0 x y
      slices_S1000x512_o0_384_S1000x128 slices_S1000x4_o0_0_S1000x1 3 0 rfl rfl broadcasts_S1000x1_S1000x128)
  · exact piece_rows x y 640 5 rfl inb_S1000x1024_S1000x128_0_640 _ (mul_slices 256 0 x y
      slices_S1000x512_o0_256_S1000x128 slices_S1000x4_o0_0_S1000x1 2 0 rfl rfl broadcasts_S1000x1_S1000x128)
  · exact piece_rows x y 512 4 rfl inb_S1000x1024_S1000x128_0_512 _ (mul_slices 128 0 x y
      slices_S1000x512_o0_128_S1000x128 slices_S1000x4_o0_0_S1000x1 1 0 rfl rfl broadcasts_S1000x1_S1000x128)
  · exact piece_rows x y 384 3 rfl inb_S1000x1024_S1000x128_0_384 _ (mul_slices 0 3 x y
      slices_S1000x512_o0_0_S1000x128 slices_S1000x4_o0_3_S1000x1 0 3 rfl rfl broadcasts_S1000x1_S1000x128)
  · exact piece_rows x y 256 2 rfl inb_S1000x1024_S1000x128_0_256 _ (mul_slices 0 2 x y
      slices_S1000x512_o0_0_S1000x128 slices_S1000x4_o0_2_S1000x1 0 2 rfl rfl broadcasts_S1000x1_S1000x128)
  · exact piece_rows x y 128 1 rfl inb_S1000x1024_S1000x128_0_128 _ (mul_slices 0 1 x y
      slices_S1000x512_o0_0_S1000x128 slices_S1000x4_o0_1_S1000x1 0 1 rfl rfl broadcasts_S1000x1_S1000x128)
  · exact piece_rows x y 0 0 rfl inb_S1000x1024_S1000x128_0_0 _ (mul_slices 0 0 x y
      slices_S1000x512_o0_0_S1000x128 slices_S1000x4_o0_0_S1000x1 0 0 rfl rfl broadcasts_S1000x1_S1000x128)

end Cert.KernelIdeal.RefValue

end
-- ==== Proof.Target.lean ====
/- The function both programs compute: the tensor product of an array of left factors and an array of right factors. -/
module

public import proofs.«01_k».proof.Proof.Consts
public import proofs.«01_k».proof.Proof.Paths
public import Idealize.ShloMosaic.Lib.ValueIdx

@[expose] public section

noncomputable section

namespace Cert.Product

open Idealize.ShloMosaic Idealize.ShloMosaic.ValueIdx

/-- The tensor product of two arrays of factors, node by node and channel by channel: a left factor has its own four
    components at each channel, a right factor has one set of four for all channels. -/
def product (x : FVec Ideal ⟨3, ![100000, 4, 128]⟩ .f32) (y : FVec Ideal ⟨3, ![100000, 4, 1]⟩ .f32) :
    FVec Ideal ⟨3, ![100000, 8, 128]⟩ .f32 := fun i =>
  comp invSqrt3 (fun a => x (ix3 (i 0) a (i 2))) (fun a => y (ix3 (i 0) a (0 : Fin 1))) (i 1)

end Cert.Product

end
-- ==== Proof.Array.lean ====
/- What the kernel's run leaves in its result: the hundred blocks cover the region's array, which holds the products of all
   its rows, and the reshapes around the region lay that out as the tensor product of the two arguments. -/
module

public import proofs.«01_k».proof.Proof.Block
public import proofs.«01_k».proof.Proof.Target
public import Idealize.ShloMosaic.Lib.Claim

@[expose] public section

noncomputable section

namespace Cert.KernelIdeal.RefValue

open Idealize.ShloMosaic Idealize.ShloMosaic.TcCoe Idealize.SL.Sem Idealize.ShloMosaic.ValueIdx
open Idealize.ShloMosaic.Pipeline (Dat)
open Cert.KernelIdeal Cert.KernelIdeal.Gen Cert.Product

variable (m : (ℓ : Loc nD τ sig) → Buf (Elt Ideal) ℓ) (ρ : Dev nD → PrngReg)

/-- The region's result as one array: the products of the rows of the two reshaped arguments. -/
abbrev whole (c : Dev nD) : Buf (Elt Ideal) ((c : Thread nD τ).loc main_v2) :=
  rows (n := 100000) (V m c main_v0) (V m c main_v1)

/-- Block `t` of each window starts at row `1000 t` and column 0, and has 1000 rows. -/
theorem block_start (t : Fin cfg0.N) :
    (win0_0.index t 0 = t.val ∧ win0_0.index t 1 = 0) ∧ (win0_1.index t 0 = t.val ∧ win0_1.index t 1 = 0)
      ∧ (win0_2.index t 0 = t.val ∧ win0_2.index t 1 = 0)
      ∧ win0_2.xsize (grid0.coords t) 0 = 1000 ∧ win0_2.xsize (grid0.coords t) 1 = 1024 := by
  revert t; decide +kernel

/-- Row `r` of block `t`, as a row of the array. -/
abbrev row (t : Fin cfg0.N) (r : Fin 1000) : Fin 100000 :=
  ⟨t.val * 1000 + r.val, by have : cfg0.N = 100 := N_0; have := t.isLt; omega⟩

/-- The left window's block `t` at a row and column is the array at row `1000 t` further down. -/
theorem iblk_x (c : Dev nD) (t : Fin cfg0.N) (r : Fin 1000) (j : Fin 512) :
    iblk m c 0 t (ix2 r j) = V m c main_v0 (ix2 (row t r) j) := by
  have e := (block_start t).1
  refine congrArg (V m c main_v0) (Shape.idx_ext₂ ?_ ?_)
  · show win0_0.index t 0 * 1000 + 1 * r.val = t.val * 1000 + r.val
    rw [e.1]; omega
  · show win0_0.index t 1 * 512 + 1 * j.val = j.val
    rw [e.2]; omega

/-- The right window's block `t` likewise. -/
theorem iblk_y (c : Dev nD) (t : Fin cfg0.N) (r : Fin 1000) (j : Fin 4) :
    iblk m c 1 t (ix2 r j) = V m c main_v1 (ix2 (row t r) j) := by
  have e := (block_start t).2.1
  refine congrArg (V m c main_v1) (Shape.idx_ext₂ ?_ ?_)
  · show win0_1.index t 0 * 1000 + 1 * r.val = t.val * 1000 + r.val
    rw [e.1]; omega
  · show win0_1.index t 1 * 4 + 1 * j.val = j.val
    rw [e.2]; omega

/-- What point `t` writes back is block `t` of the products of all rows. -/
theorem flushed_eq (c : Dev nD) (t : Fin cfg0.N) :
    (dats m 0 c).flushed 2 t = (win0_2.blk t).view.read (Elt Ideal) (whole m c) := by
  show (cfg0.win 2).cut (grid0.coords t) ((dats m 0 c).after 2 t) = _
  rw [after0_2, out_eq]
  have e := (block_start t).2.2.1
  funext i
  obtain ⟨r, j, rfl⟩ : ∃ (r : Fin 1000) (j : Fin 1024), i = ix2 r j := ⟨i 0, i 1, eq_ix2 i⟩
  have hj : j.val = (⟨j.val / 128, by omega⟩ : Fin 8).val * 128 + (⟨j.val % 128, Nat.mod_lt _ (by norm_num)⟩ : Fin 128).val := by
    show j.val = j.val / 128 * 128 + j.val % 128; omega
  refine (rows_apply (iblk m c 0 t) (iblk m c 1 t) (ix2 r j) r _ _ rfl hj).trans ?_
  rw [funext fun a => iblk_x m c t r (col a _), funext fun a => iblk_y m c t r a]
  refine (rows_apply (n := 100000) (V m c main_v0) (V m c main_v1) _ (row t r) _ _ ?_ ?_).symm
  · show win0_2.index t 0 * 1000 + 1 * r.val = t.val * 1000 + r.val
    rw [e.1]; omega
  · show win0_2.index t 1 * 1024 + 1 * j.val = _
    rw [e.2, ← hj]; omega

/-- An entry of the result array is in block `t` exactly when its row is among the block's thousand. -/
theorem mem_blk (t : Fin cfg0.N) (i : S100000x1024.Idx) :
    i ∈ ((cfg0.win 2).blk t).view.set ↔ t.val * 1000 ≤ (i 0 : Nat) ∧ (i 0 : Nat) < t.val * 1000 + 1000 := by
  show i ∈ ((View.whole main_v2).slice (win0_2.rect t)).set ↔ _
  rw [View.set_slice_whole, Rect.mem_set_unit]
  have h1 : (i 1 : Nat) < 1024 := (i 1).isLt
  obtain ⟨-, -, ⟨e0, e1⟩, s0, s1⟩ := block_start t
  have at0 : (win0_2.index t 0 * 1000 ≤ (i 0 : Nat) ∧ (i 0 : Nat) < win0_2.index t 0 * 1000 + win0_2.xsize (grid0.coords t) 0)
      ↔ t.val * 1000 ≤ (i 0 : Nat) ∧ (i 0 : Nat) < t.val * 1000 + 1000 := by rw [e0, s0]
  have at1 : win0_2.index t 1 * 1024 ≤ (i 1 : Nat) ∧ (i 1 : Nat) < win0_2.index t 1 * 1024 + win0_2.xsize (grid0.coords t) 1 := by
    rw [e1, s1]; omega
  exact ⟨fun h => at0.mp (h 0), fun h a => match a with
    | ⟨0, _⟩ => at0.mpr h
    | ⟨1, _⟩ => at1⟩

/-- The hundred blocks cover the result array. -/
theorem cover (i : S100000x1024.Idx) :
    ∃ t : Fin cfg0.N, (cfg0.win 2).flush t = true ∧ i ∈ ((cfg0.win 2).blk t).view.set := by
  have h0 : (i 0 : Nat) < 100000 := (i 0).isLt
  have hN : cfg0.N = 100 := N_0
  refine ⟨⟨(i 0).val / 1000, by omega⟩, flush0_2 _, ?_⟩
  rw [mem_blk]
  dsimp only
  omega

/-- So the region's array ends holding the products of all rows. -/
theorem final (c : Dev nD) : (dats m 0 c).arrAt 2 cfg0.N = whole m c :=
  (dats m 0 c).arrAt_eq_of_cover 2 (whole m c) (fun t _ => flushed_eq m c t) cover

/-- The products of the rows of the reshaped arguments, reshaped back, are the tensor product of the arguments. -/
theorem reshaped (x : FVec Ideal S100000x4x128 .f32) (y : FVec Ideal S100000x4x1 .f32)
    (hx : S100000x4x128.ShapeCasts S100000x512) (hy : S100000x4x1.ShapeCasts S100000x4)
    (ho : S100000x1024.ShapeCasts S100000x8x128) :
    shapeCast S100000x8x128 (rows (n := 100000) (shapeCast S100000x512 x hx) (shapeCast S100000x4 y hy)) ho = product x y := by
  funext i
  obtain ⟨n, k, u, rfl⟩ : ∃ (n : Fin 100000) (k : Fin 8) (u : Fin 128), i = ix3 n k u := ⟨i 0, i 1, i 2, eq_ix3 i⟩
  have ex : ∀ a : Fin 4, shapeCast S100000x512 x hx (ix2 n (col a u)) = x (ix3 n a u) := fun a =>
    shapeCast_apply x hx _ _ (by
      rw [Shape.rowMajor_val_three, Shape.rowMajor_val_two]
      show (n.val * 4 + a.val) * 128 + u.val = n.val * 512 + (a.val * 128 + u.val)
      omega)
  have ey : ∀ a : Fin 4, shapeCast S100000x4 y hy (ix2 n a) = y (ix3 n a (0 : Fin 1)) := fun a =>
    shapeCast_apply y hy _ _ (by
      rw [Shape.rowMajor_val_three, Shape.rowMajor_val_two]
      show (n.val * 4 + a.val) * 1 + 0 = n.val * 4 + a.val
      omega)
  refine (shapeCast_apply _ ho (ix3 n k u) (ix2 n (⟨k.val * 128 + u.val, by omega⟩ : Fin 1024)) (by
      rw [Shape.rowMajor_val_three, Shape.rowMajor_val_two]
      show n.val * 1024 + (k.val * 128 + u.val) = (n.val * 8 + k.val) * 128 + u.val
      omega)).trans ?_
  refine (rows_apply _ _ _ n k u rfl rfl).trans ?_
  rw [funext ex, funext ey]
  rfl

/-- What the host's last line leaves in the program's result: the tensor product of the two arguments. -/
theorem result (c : Dev nD) : Pipeline.afterTail₀ cfgs (dats m) 0 (V0 m) [hostOps1] c main_v3
    = product (m ((c : Thread nD τ).loc main_arg0)) (m ((c : Thread nD τ).loc main_arg1)) := by
  have hv2 : Pipeline.withArrays (cfgs 0).spec c (V0 m c) (fun w => (dats m 0 c).arrAt w (cfgs 0).N)
      (Proc.devRef .tc main_v2) = whole m c :=
    (Pipeline.withArrays_arr _ launch0.win.arr_inj c (V0 m c) _ 2).trans (final m c)
  have hx : V m c main_v0 = shapeCast S100000x512 (m ((c : Thread nD τ).loc main_arg0)) shapeCasts_S100000x4x128_S100000x512 := by
    entry_read
    rfl
  have hy : V m c main_v1 = shapeCast S100000x4 (m ((c : Thread nD τ).loc main_arg1)) shapeCasts_S100000x4x1_S100000x4 := by
    entry_read
    rfl
  have hw : whole m c = rows (n := 100000)
      (shapeCast S100000x512 (m ((c : Thread nD τ).loc main_arg0)) shapeCasts_S100000x4x128_S100000x512)
      (shapeCast S100000x4 (m ((c : Thread nD τ).loc main_arg1)) shapeCasts_S100000x4x1_S100000x4) := by
    unfold whole
    rw [hx, hy]
  unfold Pipeline.afterTail₀
  show StableHlo.after hostOps1 _ (Proc.devRef .tc main_v3) = _
  after_results_simp
  rw [hv2, hw]
  exact reshaped _ _ _ _ _

/-- The kernel's run: its result ends at the tensor product of its arguments, which end unchanged. -/
theorem run : θ_run defs (onTc (τ := τ) (main (F := Ideal))) ⟨m, fun _ => 0, ρ⟩ fun r => ∀ c : Dev nD,
      r.2.mem ((c : Thread nD τ).loc main_v3) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RefValue

end
-- ==== Proof.Reference.lean ====
/- What the reference computes: at each node, component and channel, the sum over the paths into that component, which is
   that component of the product of the node's two factors. -/
module

public import proofs.«01_k».proof.Proof.Target
public import proofs.«01_k».proof.Proof.Gen.ReferenceIdeal.Run
public import Idealize.ShloMosaic.Lib.Pipeline.Value
public import Idealize.ShloMosaic.Lib.ValueIdx

@[expose] public section

noncomputable section

open scoped BigOperators

namespace Cert.ReferenceIdeal.RefValue

open Idealize.ShloMosaic Idealize.ShloMosaic.ValueIdx Cert.ReferenceIdeal Cert.ReferenceIdeal.Gen Cert.Product

/-- A table of ten words as the reference prepares it for indexing: `n` added to the negative ones, as a column. -/
abbrev column (l : Fin 10 → BitVec 32) (n : BitVec 32) : IVec S10x1 32 :=
  broadcastInDim S10x1 ![0] bcast_S10_S10x1_0
    (select (cmpi .slt (fun i => l (S10.rowMajor i)) (broadcastInDim S10 ![] bcast_S_S10 (constantI S_ 32 0#32)))
      (addi (fun i => l (S10.rowMajor i)) (broadcastInDim S10 ![] bcast_S_S10 (constantI S_ 32 n)))
      (fun i => l (S10.rowMajor i)))

/-- With no negative word, entry `p` of the column is word `p` of the table. -/
theorem column_apply (l : Fin 10 → BitVec 32) (n : BitVec 32) (hl : ∀ p, IntOp.cmpi .slt (l p) 0#32 = 0#1) (p : Fin 10)
    (i : S10x1.Idx) (hi : (i 0).val = p.val) : column l n i = l p := by
  have e : S10.rowMajor (ix1 p) = p := Fin.ext (by rw [Shape.rowMajor_val_one])
  refine (broadcastInDim_apply ![0] bcast_S10_S10x1_0 _ i (ix1 p) fun a => ?_).trans ?_
  · match a with
    | ⟨0, _⟩ => exact hi.symm
  · show Scalar.select (IntOp.cmpi .slt (l (S10.rowMajor (ix1 p))) 0#32) _ (l (S10.rowMajor (ix1 p))) = _
    rw [e, hl p]
    rfl

/-- Path `p` reads component `left p` of the left factor. -/
theorem gather_left (x : FVec Ideal S100000x4x128 .f32) (n : Fin 100000) (p : Fin 10) (u : Fin 128) :
    Host.gather gather_S100000x4x128_S10x1_S100000x10x128_02_1_n_n_1_1_1000001128 x (column lit0 4#32) (ix3 n p u)
      = x (ix3 n (left p) u) := by
  have hw : ∀ p : Fin 10, min (lit0 p).toInt.toNat 3 = (left p).val := by decide
  unfold Host.gather
  refine congrArg x (funext fun a => Fin.ext ?_)
  match a with
  | ⟨0, _⟩ => exact Nat.zero_add _
  | ⟨1, _⟩ =>
    show min (column lit0 4#32 _).toInt.toNat 3 + 0 + 0 = (left p).val
    rw [column_apply lit0 4#32 (by decide) p _ rfl, hw, Nat.add_zero]
  | ⟨2, _⟩ => exact Nat.zero_add _

/-- Path `p` reads component `right p` of the right factor. -/
theorem gather_right (y : FVec Ideal S100000x4x1 .f32) (n : Fin 100000) (p : Fin 10) :
    Host.gather gather_S100000x4x1_S10x1_S100000x10x1_02_1_n_n_1_1_10000011 y (column lit1 4#32) (ix3 n p (0 : Fin 1))
      = y (ix3 n (right p) (0 : Fin 1)) := by
  have hw : ∀ p : Fin 10, min (lit1 p).toInt.toNat 3 = (right p).val := by decide
  unfold Host.gather
  refine congrArg y (funext fun a => Fin.ext ?_)
  match a with
  | ⟨0, _⟩ => exact Nat.zero_add _
  | ⟨1, _⟩ =>
    show min (column lit1 4#32 _).toInt.toNat 3 + 0 + 0 = (right p).val
    rw [column_apply lit1 4#32 (by decide) p _ rfl, hw, Nat.add_zero]
  | ⟨2, _⟩ => rfl

/-- The coefficients of the ten paths, laid over the nodes and channels. -/
abbrev coeffs : FVec Ideal S100000x10x128 .f32 :=
  broadcastInDim S100000x10x128 ![0, 1, 2] bcast_S1x10x1_S100000x10x128_0_1_2 (broadcastInDim S1x10x1 ![1] bcast_S10_S1x10x1_1
    (concatenate S10 0 [⟨S7, (broadcastInDim S7 ![] bcast_S_S7 (constant S_ .f32 0x3F800000#32))⟩,
      ⟨S3, (broadcastInDim S3 ![] bcast_S_S3 (Host.divf (constant S_ .f32 0x3F800000#32)
        (Host.sqrt (constant S_ .f32 0x40400000#32))))⟩] concatenates_S7_S3_S10_d0))

/-- The coefficient of path `p` is one for the first seven and the inverse square root of three for the last three. -/
theorem coeffs_apply (n : Fin 100000) (p : Fin 10) (u : Fin 128) : coeffs (ix3 n p u) = weight invSqrt3 p := by
  refine (broadcastInDim_apply ![0, 1, 2] _ _ (ix3 n p u) (ix3 (0 : Fin 1) p (0 : Fin 1)) fun a => ?_).trans ?_
  · match a with
    | ⟨0, _⟩ => rfl
    | ⟨1, _⟩ => rfl
    | ⟨2, _⟩ => rfl
  refine (broadcastInDim_apply ![1] _ _ (ix3 (0 : Fin 1) p (0 : Fin 1)) (ix1 p) fun a => ?_).trans ?_
  · match a with
    | ⟨0, _⟩ => rfl
  unfold weight
  by_cases h : p.val < 7
  · rw [if_pos h]
    refine (concatenate_pair_apply_left (s₁ := S7) (s₂ := S3) (0 : Fin 1) _ _ _ (ix1 p) rfl (ix1 (n := 7) ⟨p.val, h⟩)
      fun b => ?_).trans ?_
    · match b with
      | ⟨0, _⟩ => rfl
    · exact word_one
  · rw [if_neg h]
    refine (concatenate_pair_apply_right (s₁ := S7) (s₂ := S3) (0 : Fin 1) _ _ _ (ix1 p) rfl rfl
      (ix1 (n := 3) ⟨p.val - 7, by omega⟩) ?_ ?_).trans ?_
    · exact fun b hb => absurd (Subsingleton.elim _ _) hb
    · show p.val - 7 + 7 = p.val
      omega
    · exact div_sqrt_three S_ _

/-- Where the reference adds entry `j` of the paths' products: the same node and channel, component `dest` of the path. -/
theorem lands (j : S100000x10x128.Idx) :
    scatter_S100000x8x128_S10x1_S100000x10x128_02_1_1_1.resultIdx? j (column lit2 8#32)
      = some (ix3 (j 0) (dest (j 1)) (j 2)) := by
  have hw : ∀ p : Fin 10, (lit2 p).toInt = ((dest p).val : Int) := by decide
  have h1 : (column lit2 8#32 (scatter_S100000x8x128_S10x1_S100000x10x128_02_1_1_1.siIdx j ⟨0, by decide⟩)).toInt
      = ((dest (j 1)).val : Int) := by
    rw [column_apply lit2 8#32 (by decide) (j 1) _ rfl]
    exact hw (j 1)
  have hd : ∀ a : Fin 3, scatter_S100000x8x128_S10x1_S100000x10x128_02_1_1_1.start j (column lit2 8#32) a
      + scatter_S100000x8x128_S10x1_S100000x10x128_02_1_1_1.window j a
      = (((ix3 (j 0) (dest (j 1)) (j 2) : S100000x8x128.Idx) a).val : Int) := fun a => by
    match a with
    | ⟨0, _⟩ => exact Int.zero_add _
    | ⟨1, _⟩ => exact (Int.add_zero _).trans h1
    | ⟨2, _⟩ => exact Int.zero_add _
  unfold ScatterDims.resultIdx?
  rw [dif_pos fun a => ?_]
  · refine congrArg some (funext fun a => Fin.ext ?_)
    show Int.toNat _ = _
    rw [hd a]; rfl
  · rw [hd a]
    exact ⟨Int.natCast_nonneg _, Int.ofNat_lt.mpr (Fin.isLt _)⟩

/-- The reference's accumulation at node `n`, component `k` and channel `u`: the entries of the paths into `k`, added up. -/
theorem scatter_apply (g : FVec Ideal S100000x10x128 .f32) (n : Fin 100000) (k : Fin 8) (u : Fin 128) :
    Host.scatterAdd scatter_S100000x8x128_S10x1_S100000x10x128_02_1_1_1
        (broadcastInDim S100000x8x128 ![] bcast_S_S100000x8x128 (constant (F := Ideal) S_ .f32 0x00000000#32)) (column lit2 8#32) g
        (ix3 n k u)
      = ∑ p ∈ Finset.univ.filter (fun p => dest p = k), g (ix3 n p u) := by
  show Ideal.ofBits .f32 0x00000000#32 + ∑ j ∈ Finset.univ.filter (fun j =>
    scatter_S100000x8x128_S10x1_S100000x10x128_02_1_1_1.resultIdx? j (column lit2 8#32) = some (ix3 n k u)), g j = _
  rw [word_zero, zero_add]
  have hmem : ∀ j : S100000x10x128.Idx, j ∈ Finset.univ.filter (fun j =>
      scatter_S100000x8x128_S10x1_S100000x10x128_02_1_1_1.resultIdx? j (column lit2 8#32) = some (ix3 n k u))
      → j 0 = n ∧ dest (j 1) = k ∧ j 2 = u := fun j hj => by
    have e := (Finset.mem_filter.mp hj).2
    rw [lands] at e
    have e' := Option.some.inj e
    exact ⟨congrFun e' 0, congrFun e' 1, congrFun e' 2⟩
  have hback : ∀ j : S100000x10x128.Idx, j ∈ Finset.univ.filter (fun j =>
      scatter_S100000x8x128_S10x1_S100000x10x128_02_1_1_1.resultIdx? j (column lit2 8#32) = some (ix3 n k u))
      → ix3 n (j 1) u = j := fun j hj => by
    obtain ⟨rfl, -, rfl⟩ := hmem j hj
    exact (eq_ix3 j).symm
  refine Finset.sum_nbij' (fun j => j 1) (fun p => ix3 n p u) (fun j hj => ?_) (fun p hp => ?_) hback (fun p _ => rfl)
    (fun j hj => congrArg g (hback j hj).symm)
  · exact Finset.mem_filter.mpr ⟨Finset.mem_univ _, (hmem j hj).2.1⟩
  · refine Finset.mem_filter.mpr ⟨Finset.mem_univ _, ?_⟩
    rw [lands]
    exact congrArg (fun q => some (ix3 n q u)) (Finset.mem_filter.mp hp).2

/-- The products of the ten paths, before they are added up. -/
abbrev terms (x : FVec Ideal S100000x4x128 .f32) (y : FVec Ideal S100000x4x1 .f32) : FVec Ideal S100000x10x128 .f32 :=
  mulf (mulf (Host.gather gather_S100000x4x128_S10x1_S100000x10x128_02_1_n_n_1_1_1000001128 x (column lit0 4#32)) coeffs)
    (broadcastInDim S100000x10x128 ![0, 1, 2] bcast_S100000x10x1_S100000x10x128_0_1_2
      (Host.gather gather_S100000x4x1_S10x1_S100000x10x1_02_1_n_n_1_1_10000011 y (column lit1 4#32)))

/-- The right factor of path `p` is the same on every channel. -/
theorem spread_right (y : FVec Ideal S100000x4x1 .f32) (n : Fin 100000) (p : Fin 10) (u : Fin 128) :
    broadcastInDim S100000x10x128 ![0, 1, 2] bcast_S100000x10x1_S100000x10x128_0_1_2
        (Host.gather gather_S100000x4x1_S10x1_S100000x10x1_02_1_n_n_1_1_10000011 y (column lit1 4#32)) (ix3 n p u)
      = y (ix3 n (right p) (0 : Fin 1)) := by
  refine Eq.trans (broadcastInDim_apply (s := S100000x10x1) (t := S100000x10x128) ![0, 1, 2] _ _ (ix3 n p u)
    (ix3 n p (0 : Fin 1)) fun a => ?_) (gather_right y n p)
  match a with
  | ⟨0, _⟩ => exact (if_neg (show ¬ (100000 : Nat) = 1 by decide)).symm
  | ⟨1, _⟩ => exact (if_neg (show ¬ (10 : Nat) = 1 by decide)).symm
  | ⟨2, _⟩ => rfl

/-- The product of one path: its component of the left factor, its coefficient, its component of the right factor. -/
theorem terms_apply (x : FVec Ideal S100000x4x128 .f32) (y : FVec Ideal S100000x4x1 .f32) (n : Fin 100000) (p : Fin 10)
    (u : Fin 128) :
    terms x y (ix3 n p u) = x (ix3 n (left p) u) * weight invSqrt3 p * y (ix3 n (right p) (0 : Fin 1)) :=
  (mulf_apply _ _ _).trans (congrArg₂ (· * ·) ((mulf_apply _ _ _).trans
    (congrArg₂ (· * ·) (gather_left x n p u) (coeffs_apply n p u))) (spread_right y n p u))

/-- The reference's result is the tensor product of its arguments. -/
theorem reference_eq (x : FVec Ideal S100000x4x128 .f32) (y : FVec Ideal S100000x4x1 .f32) :
    Host.scatterAdd scatter_S100000x8x128_S10x1_S100000x10x128_02_1_1_1
        (broadcastInDim S100000x8x128 ![] bcast_S_S100000x8x128 (constant (F := Ideal) S_ .f32 0x00000000#32)) (column lit2 8#32)
        (terms x y)
      = product x y := by
  funext i
  obtain ⟨n, k, u, rfl⟩ : ∃ (n : Fin 100000) (k : Fin 8) (u : Fin 128), i = ix3 n k u := ⟨i 0, i 1, i 2, eq_ix3 i⟩
  exact (scatter_apply (terms x y) n k u).trans ((Finset.sum_congr rfl fun p _ => terms_apply x y n p u).trans
    (sum_paths invSqrt3 invSqrt3_nonneg (fun a => x (ix3 n a u)) (fun a => y (ix3 n a (0 : Fin 1))) k))

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's run ends with its arguments as they began. -/
theorem quiescent_kernel : Cert.quiescent_Kernel := fun m ρ _ => Cert.Kernel.Gen.frame m ρ

/-- So does the run of the kernel with the named constant. -/
theorem quiescent_kernelIdeal : Cert.quiescent_KernelIdeal := fun m ρ _ => Cert.KernelIdeal.Gen.frame m ρ

/-- So does the reference's run; it has no semaphores. -/
theorem quiescent_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant, the inverse of the square root of three, has the kernel's literal as its rounding. -/
theorem preserves : Cert.preserves_Kernel_KernelIdeal :=
  IdealRules.named_const.statement Cert.KernelIdeal.κ "inv_sqrt_3" .f32 0x3F13CD3A#32 (((Real.sqrt 3)⁻¹ : ℝ) : EReal) rfl

/-- Kernel and reference end holding the same array, the tensor product of their arguments. -/
theorem algebraic : Cert.algebraic_KernelIdeal_ReferenceIdeal := fun m ρ m' ρ' _ hagree =>
  ⟨fun c => Product.product (m ((c.tc : Thread _ _).loc Cert.KernelIdeal.main_arg0)) (m ((c.tc : Thread _ _).loc Cert.KernelIdeal.main_arg1)),
    Cert.KernelIdeal.RefValue.run m ρ,
    (θ_run Cert.ReferenceIdeal.defs _ _).mono
      (fun r h c => ⟨((h c).1.trans (Cert.ReferenceIdeal.RefValue.reference_eq _ _)).trans
        (congrArg₂ Product.product (hagree c).1 (hagree c).2), (h c).2⟩)
      (Cert.ReferenceIdeal.Value.run (F := Ideal) m' ρ')⟩

/-- All five claims, with the programs' stated facts. -/
theorem claim : Cert.Claim := ⟨Cert.Kernel.Gen.facts, Cert.KernelIdeal.Gen.facts, Cert.ReferenceIdeal.Gen.facts,
  quiescent_kernel, quiescent_kernelIdeal, quiescent_referenceIdeal, preserves, algebraic⟩

end Cert.Proof

end
